-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S100000x128 .f32) (main_arg2 : FVec F S1024x128 .f32) (main_arg3 : FVec F S1024 .f32) (main_arg4 : FVec F S512x1024 .f32) (main_arg5 : FVec F S512 .f32) (main_arg6 : FVec F S1000x512 .f32) (main_arg7 : FVec F S1000 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 100000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S1x1024 : Shape := ⟨2, ![1, 1024]⟩
abbrev S1x512 : Shape := ⟨2, ![1, 512]⟩
abbrev S1x1000 : Shape := ⟨2, ![1, 1000]⟩
abbrev S4096x1000 : Shape := ⟨2, ![4096, 1000]⟩
abbrev S512x1000 : Shape := ⟨2, ![512, 1000]⟩
abbrev S512x128 : Shape := ⟨2, ![512, 128]⟩
abbrev S512x512 : Shape := ⟨2, ![512, 512]⟩

abbrev nBuf : Table → Nat
  | .hbm => 13
  | .local .tc .vmem => 9
  | .local .scVector .vmem => 2
  | _ => 0

abbrev bufTy : (tb : Table) → Fin (nBuf tb) → BufTy
  | .hbm, ⟨0, _⟩ => ⟨S4096, .i32⟩
  | .hbm, ⟨1, _⟩ => ⟨S100000x128, .f32⟩
  | .hbm, ⟨2, _⟩ => ⟨S1024x128, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1000x512, .f32⟩
  | .hbm, ⟨7, _⟩ => ⟨S1000, .f32⟩
  | .hbm, ⟨8, _⟩ => ⟨S4096x128, .f32⟩
  | .hbm, ⟨9, _⟩ => ⟨S1x1024, .f32⟩
  | .hbm, ⟨10, _⟩ => ⟨S1x512, .f32⟩
  | .hbm, ⟨11, _⟩ => ⟨S1x1000, .f32⟩
  | .hbm, ⟨12, _⟩ => ⟨S4096x1000, .f32⟩
  | .local .tc .vmem, ⟨0, _⟩ => ⟨S4096x128, .f32⟩
  | .local .tc .vmem, ⟨1, _⟩ => ⟨S1024x128, .f32⟩
  | .local .tc .vmem, ⟨2, _⟩ => ⟨S1x1024, .f32⟩
  | .local .tc .vmem, ⟨3, _⟩ => ⟨S512x1024, .f32⟩
  | .local .tc .vmem, ⟨4, _⟩ => ⟨S1x512, .f32⟩
  | .local .tc .vmem, ⟨5, _⟩ => ⟨S1000x512, .f32⟩
  | .local .tc .vmem, ⟨6, _⟩ => ⟨S1x1000, .f32⟩
  | .local .tc .vmem, ⟨7, _⟩ => ⟨S512x1000, .f32⟩
  | .local .tc .vmem, ⟨8, _⟩ => ⟨S512x1000, .f32⟩
  | .local .scVector .vmem, ⟨0, _⟩ => ⟨S128, .i32⟩
  | .local .scVector .vmem, ⟨1, _⟩ => ⟨S128x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg1_scv : Ref sig .scVector := ⟨.hbm, 1, rfl⟩
abbrev main_arg0_scv : Ref sig .scVector := ⟨.hbm, 0, rfl⟩
abbrev main_v0_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg7_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem7_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v0 : BitVec 32 := Scalar.muli arg0 c512_i32
  let v1 : Index := Scalar.indexCast v0
  let c0 : Index := 0#32
  ![v1.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1000x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S128x1024 : Shape := ⟨2, ![128, 1024]⟩
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1x512 : Shape := ⟨2, ![1, 512]⟩
abbrev S512x1000 : Shape := ⟨2, ![512, 1000]⟩
abbrev S4096x1000 : Shape := ⟨2, ![4096, 1000]⟩
abbrev S1x1000 : Shape := ⟨2, ![1, 1000]⟩

abbrev nBuf : Space → Nat
  | .hbm => 52
  | .vmem => 0
  | .smem => 0
  | _ => 0

abbrev bufTy : (tb : Table) → Fin (tcTables nBuf tb) → BufTy
  | .hbm, ⟨0, _⟩ => ⟨S4096, .i32⟩
  | .hbm, ⟨1, _⟩ => ⟨S100000x128, .f32⟩
  | .hbm, ⟨2, _⟩ => ⟨S1024x128, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1000x512, .f32⟩
  | .hbm, ⟨7, _⟩ => ⟨S1000, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S4096x128, .f32⟩
  | .hbm, ⟨27, _⟩ => ⟨S4096x128, .i1⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S128x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S1024x512, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S512x1000, .f32⟩
  | .hbm, ⟨48, _⟩ => ⟨S4096x1000, .f32⟩
  | .hbm, ⟨49, _⟩ => ⟨S1x1000, .f32⟩
  | .hbm, ⟨50, _⟩ => ⟨S4096x1000, .f32⟩
  | .hbm, ⟨51, _⟩ => ⟨S4096x1000, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call1_cst : Ref sig .tc := ⟨.hbm, 36, rfl⟩
abbrev main_call1_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call2_cst : Ref sig .tc := ⟨.hbm, 44, rfl⟩
abbrev main_call2_v0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩

abbrev nD : Nat := 1
abbrev τ : Topo := Topo.v7x

variable {F : FTy → Type} [FloatOps F]
-- ==== Proof.IdealTile.lean ====
/-
  The gather on the SparseCores: what each of the 2 × 16 tiles does, with values.

  Tile `(c, s)` owns block `2 s + c` of 32: it fetches its 128 row numbers from `state`, gathers those rows of the table
  into its row buffer, and writes them to its 128 rows of the gathered array. Together the tiles leave the gathered
  array at `gath m d`: row `n` of it is the table's row named by word `n` of `state`. The one thing asked of the launch
  memory is that every word of `state` names a row of the table (`InRows`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.ValueKit.Geometry
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipeline's rounds, the local transfers' counters. -/
abbrev UH : Type := URounds (GSem nD τ sig) ℕ
abbrev UPp : Type := URounds (GSem nD τ sig) Unit
abbrev UU : Type := UH × (UPp × Counters)

local notation "𝕄" => MT nD τ sig (HIx 1) (Elt F) ℕ UU ℕ

abbrev EH : Emb UH (MT nD τ sig (HIx 1) (Elt F) ℕ UU ℕ) := embL

/-! ## Memory -/

variable (m : (ℓ : Loc nD τ sig) → Buf (Elt F) ℓ)

abbrev iLoc (d : Dev nD) : Loc nD τ sig := (SparseCore.T d).loc main_arg0
abbrev tLoc (d : Dev nD) : Loc nD τ sig := (SparseCore.T d).loc main_arg1
abbrev gLoc (d : Dev nD) : Loc nD τ sig := (SparseCore.T d).loc main_v0

local notation "iV" => (Memref.whole Cert.KernelIdeal.main_arg0_scv : Memref Cert.KernelIdeal.sig Kind.scVector Space.hbm Cert.KernelIdeal.S4096 EltTy.i32)
local notation "tV" => (Memref.whole Cert.KernelIdeal.main_arg1_scv : Memref Cert.KernelIdeal.sig Kind.scVector Space.hbm Cert.KernelIdeal.S100000x128 EltTy.f32)
local notation "gV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- Every word of `state` names a row of the table. -/
def InRows : Prop := ∀ (d : Dev nD) (j : S4096.Idx), (m (iLoc d) j).toNat < 100000

/-- The word of `state` that names the row of element `j`. -/
def wordIx (j : S4096x128.Idx) : S4096.Idx := fun a => match a with | 0 => (j 0 : Fin 4096)

/-- Where element `j` of the gathered array comes from: column `j 1` of the row `state` names at `j 0`. -/
def srcIx (st : S4096.Idx → BitVec 32) (j : S4096x128.Idx) : S100000x128.Idx :=
  fun a => match a with
    | 0 => (⟨(st (wordIx j)).toNat % 100000, Nat.mod_lt _ (by decide)⟩ : Fin 100000)
    | 1 => (j 1 : Fin 128)

/-- The gathered array. -/
def gath (d : Dev nD) : Buf (Elt F) (gLoc d) := fun j => m (tLoc d) (srcIx (m (iLoc d)) j)

/-! ## The tiles' blocks -/

theorem idiv : 32 ∣ S4096.size 0 := ⟨128, rfl⟩
theorem gdiv : 32 ∣ S4096x128.size 0 := ⟨128, rfl⟩
abbrev irow (b : Fin 32) : Rect S4096 := Rect.part (s := S4096) (a₀ := 0) idiv b
abbrev grow (b : Fin 32) : Rect S4096x128 := Rect.part (s := S4096x128) (a₀ := 0) gdiv b
abbrev iSet (b : Fin 32) : Finset S4096.Idx := ((iV).view.slice (irow b)).set
abbrev gSet (b : Fin 32) : Finset S4096x128.Idx := ((gV).view.slice (grow b)).set

/-- The block of tile `s` of SparseCore `c`. -/
def blk (c : Fin 2) (s : Fin 16) : Fin 32 := ⟨2 * s.val + c.val, by omega⟩

/-- The blocks are the tiles'. -/
def blkEquiv : Fin 2 × Fin 16 ≃ Fin 32 where
  toFun p := blk p.1 p.2
  invFun b := (⟨b.val % 2, Nat.mod_lt _ (by decide)⟩, ⟨b.val / 2, by omega⟩)
  left_inv p := by
    obtain ⟨c, s⟩ := p
    refine Prod.ext (Fin.ext ?_) (Fin.ext ?_) <;> simp only [blk] <;> omega
  right_inv b := Fin.ext (by simp only [blk]; omega)

/-- Block `b`'s piece of the table's share. -/
abbrev tq (b : Fin 32) : PosShare TreeShare := pieceOf fullShare 32 (by decide) b

abbrev iPts (d : Dev nD) : sProp 𝕄 := iLoc d ↦{fullShare} m (iLoc d)
abbrev tPts (d : Dev nD) : sProp 𝕄 := tLoc d ↦{fullShare} m (tLoc d)
abbrev gPts (d : Dev nD) (f : Buf (Elt F) (gLoc d)) : sProp 𝕄 := gLoc d ↦{fullShare} f
abbrev iBlk (d : Dev nD) (b : Fin 32) : sProp 𝕄 := iLoc d ↦[iSet b]{fullShare} m (iLoc d)
abbrev tBlk (d : Dev nD) (b : Fin 32) : sProp 𝕄 := tLoc d ↦{tq b} m (tLoc d)
abbrev gBlk (d : Dev nD) (b : Fin 32) (f : Buf (Elt F) (gLoc d)) : sProp 𝕄 := gLoc d ↦[gSet b]{fullShare} f

/-- What tile block `b` takes, the gathered array's block at `f`. -/
abbrev task (d : Dev nD) (b : Fin 32) (f : Buf (Elt F) (gLoc d)) : sProp 𝕄 := iprop(iBlk m d b ∗ tBlk m d b ∗ gBlk d b f)

abbrev tileBlk (c : Fin ((K (F := F)).nCore 0)) (s : Fin ((K (F := F)).nSub 0)) : Fin 32 := blk (Fin.cast nCore_zero c) (Fin.cast nSub_zero s)

/-- The call hands each SparseCore its tiles' operands, each tile its own; they come back with the gathered rows in. -/
def P : (K (F := F)).Pay (nD := nD) (Val := Elt F) (Name := ℕ) (U := UU) where
  st := fun q d c => match q with | 0 => bigSep Finset.univ fun s : Fin ((K (F := F)).nSub 0) => task m d (tileBlk c s) (m (gLoc d))
  dn := fun q d c => match q with | 0 => bigSep Finset.univ fun s : Fin ((K (F := F)).nSub 0) => task m d (tileBlk c s) (gath m d)
  go := fun q d c s => match q with | 0 => task m d (tileBlk c s) (m (gLoc d))
  td := fun q d c s => match q with | 0 => task m d (tileBlk c s) (gath m d)
  x := fun _ _ => iprop(emp)

instance P_storable : (P (F := F) m).IsStorable where
  st q d c := match q with
    | 0 => (inferInstance : BI.Storable (upEmb : UEmb _ 𝕄) (bigSep Finset.univ fun s : Fin ((K (F := F)).nSub 0) => task m d (tileBlk c s) (m (gLoc d))))
  dn q d c := match q with
    | 0 => (inferInstance : BI.Storable (upEmb : UEmb _ 𝕄) (bigSep Finset.univ fun s : Fin ((K (F := F)).nSub 0) => task m d (tileBlk c s) (gath m d)))
  go q d c s := match q with
    | 0 => (inferInstance : BI.Storable (upEmb : UEmb _ 𝕄) (task m d (tileBlk c s) (m (gLoc d))))
  td q d c s := match q with
    | 0 => (inferInstance : BI.Storable (upEmb : UEmb _ 𝕄) (task m d (tileBlk c s) (gath m d)))

/-! ## One tile -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev bL (L : grid0.Coords) : Fin 32 := blk (Fin.cast bound_zero (L 0)) (Fin.cast bound_one (L 1))

abbrev irowK (L : grid0.Coords) : Rect S4096 := Rect.unit (s := S4096) (k0_off1 L) S128.size (k0_off1_inb L)
abbrev growK (L : grid0.Coords) : Rect S4096x128 := Rect.unit (s := S4096x128) (k0_off2 L) S128x128.size (k0_off2_inb L)
/-- The tile's row numbers, its rows of the gathered array, and the whole table, as the tile addresses them. -/
abbrev iK (L : grid0.Coords) : Memref sig .scVector .hbm S128 .i32 := (iV).slice (irowK L) (fun _ => rfl)
abbrev gK (L : grid0.Coords) : Memref sig .scVector .hbm S128x128 .f32 := (gV).slice (growK L) (fun _ => rfl)
abbrev tK : Memref sig .scVector .hbm S100000x128 .f32 := (tV).slice (Rect.unit (s := S100000x128) ![0, 0] S100000x128.size inb_S100000x128_S100000x128_0_0) (fun _ => rfl)

/-- A tile's first row is its block's. -/
theorem off_blk : 256 * (L 1).val + 128 * (L 0).val = (bL L).val * 128 := by
  show _ = (2 * (L 1).val + (L 0).val) * 128
  omega

theorem irowK_eq : irowK L = irow (bL L) := by
  unfold irowK irow Rect.part Rect.block
  congr 1 <;> funext a
  · rw [k0_off1_eq]
    match a with
    | 0 => exact off_blk L
  · match a with
    | 0 => simp [Shape.partSize]
theorem growK_eq : growK L = grow (bL L) := by
  unfold growK grow Rect.part Rect.block
  congr 1 <;> funext a
  · rw [k0_off2_eq]
    match a with
    | 0 => exact off_blk L
    | 1 => simp [Shape.partIx, Shape.partSize]
  · match a with
    | 0 => simp [Shape.partSize]
    | 1 => simp [Shape.partSize]

theorem set_iK : (iK L).view.set = iSet (bL L) := by
  show ((iV).view.slice (irowK L)).set = ((iV).view.slice (irow (bL L))).set
  exact irowK_eq L ▸ rfl
theorem set_gK : (gK L).view.set = gSet (bL L) := by
  show ((gV).view.slice (growK L)).set = ((gV).view.slice (grow (bL L))).set
  exact growK_eq L ▸ rfl

theorem pts_iK (f : Buf (Elt F) (iLoc d)) :
    ((iK L).view.loc (V d (cV L) (jV L)) ↦[(iK L).view.set]{fullShare} f : sProp 𝕄) = iLoc d ↦[iSet (bL L)]{fullShare} f := by
  rw [set_iK]
theorem pts_gK (f : Buf (Elt F) (gLoc d)) :
    ((gK L).view.loc (V d (cV L) (jV L)) ↦[(gK L).view.set]{fullShare} f : sProp 𝕄) = gLoc d ↦[gSet (bL L)]{fullShare} f := by
  rw [set_gK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scratch2.sem)
abbrev cC (d : Dev nD) (c : Fin τ.nSC) (i : Fin τ.nSub) : GSem nD τ sig := (V d c i, .dma cc0_scoped1.sem)

/-- The three semaphores a tile uses are among its own. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

/-- The two scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Reading through the tile's view of `state`. -/
theorem read_iK (f : Buf (Elt F) (iLoc d)) (j : S128.Idx) : (iK L).view.read (Elt F) f j = f ((iK L).view.emb j) :=
  (View.read_apply _ _).trans (cast_eq _ _)

/-- The list the fetch landed, whatever was in the scratch before. -/
theorem list_val (fs : Buf (Elt F) ((V d (cV L) (jV L)).loc cc0_scratch0)) (x : S128.Idx) :
    (sV).view.read (Elt F) (View.write (Elt F) (sV).view fs ((iK L).view.read (Elt F) (m (iLoc d))) Finset.univ) x
      = m (iLoc d) ((iK L).view.emb x) := by
  rw [View.write_whole_univ]
  simp only [Memref.view_whole, View.read_whole]
  rw [read_iK]

/-- The row buffer written whole reads back what was written. -/
theorem read_rows (fr : Buf (Elt F) ((V d (cV L) (jV L)).loc cc0_scratch1)) (w : S128x128.Idx → Elt F .f32) :
    (rV).view.read (Elt F) (View.write (Elt F) (rV).view fr w Finset.univ) = w := by
  rw [View.write_whole_univ]
  simp only [Memref.view_whole, View.read_whole]

/-- The row numbers the fetch landed are in range. -/
theorem inb_of_rows (h : InRows m) (fs : Buf (Elt F) ((V d (cV L) (jV L)).loc cc0_scratch0)) :
    ∀ x, ((sV).view.read (Elt F) (View.write (Elt F) (sV).view fs ((iK L).view.read (Elt F) (m (iLoc d))) Finset.univ) x).toNat
      < S100000x128.size gathers_S100000x128_S128x128.axis := fun x => by
  rw [list_val]; exact h d _

/-- The rows the list names, as the tile's gather reads them. -/
theorem rows_val {si : Shape} {o z : ℕ} (w : si.Idx → Elt F .i32) (hn : si.numel = o) (h : ∀ x, (w x).toNat < z) (k : Fin o) :
    (SparseCore.rows w hn h k).val = (w (si.rowMajor.symm (k.cast hn.symm))).toNat := rfl

/-- Entry `k` of a list of 128 words is its word at index `k`. -/
theorem symm_S128 (k : Fin S128.numel) : (S128.rowMajor.symm k 0).val = k.val := by
  have h := Shape.rowMajor_val_one (S128.rowMajor.symm k)
  rw [← h]; exact congrArg Fin.val (S128.rowMajor.apply_symm_apply k)

/-- What the tile writes out is its block of the gathered array. -/
theorem out_eq (h : InRows m) (f : Buf (Elt F) (gLoc d)) (w : S128.Idx → Elt F .i32) (hw : ∀ x, w x = m (iLoc d) ((iK L).view.emb x))
    (hin : ∀ x, (w x).toNat < S100000x128.size gathers_S100000x128_S128x128.axis)
    (hn : S128.numel = S128x128.size gathers_S100000x128_S128x128.axis')
    (pay : S128x128.Idx → Elt F .f32)
    (hpay : pay = SparseCore.gatherPayload gathers_S100000x128_S128x128 ((tK).view.read (Elt F) (m (tLoc d))) (SparseCore.rows w hn hin)) :
    ∀ j ∈ (gK L).view.set, View.write (Elt F) (gK L).view f pay Finset.univ j = gath m d j := by
  intro j hj
  obtain ⟨x, -, rfl⟩ := Finset.mem_map.mp hj
  rw [View.write_emb_of_mem _ _ (Finset.mem_univ x)]
  subst hpay
  refine (cast_eq _ _).trans ?_
  unfold SparseCore.gatherPayload gath
  refine ((View.read_apply _ _).trans (cast_eq _ _)).trans ?_
  refine congrArg (m (tLoc d)) (funext fun a => Fin.ext ?_)
  refine (ValueKit.view_emb_slice_whole_unit_val main_arg1_scv ![0, 0] S100000x128.size inb_S100000x128_S100000x128_0_0 _ a).trans ?_
  match a with
  | 0 =>
    have e := congrArg Fin.val (Shape.Gathers.idx_axis gathers_S100000x128_S128x128 (SparseCore.rows w hn hin) x)
    refine (Nat.zero_add _).trans (e.trans ((rows_val w hn hin _).trans ?_))
    rw [hw]
    show _ = (m (iLoc d) (wordIx ((gK L).view.emb x))).toNat % 100000
    rw [Nat.mod_eq_of_lt (h d _)]
    refine congrArg (fun j => (m (iLoc d) j).toNat) (funext fun b => Fin.ext ?_)
    match b with
    | 0 =>
      refine (ValueKit.view_emb_slice_whole_unit_val main_arg0_scv (k0_off1 L) S128.size (k0_off1_inb L) _ 0).trans ?_
      refine Eq.trans ?_ (ValueKit.view_emb_slice_whole_unit_val main_v0_scv (k0_off2 L) S128x128.size (k0_off2_inb L) x 0).symm
      have e1 : k0_off1 L 0 = k0_off2 L 0 := (congrFun (k0_off1_eq L) 0).trans (congrFun (k0_off2_eq L) 0).symm
      exact congrArg₂ (· + ·) e1 (symm_S128 _)
  | 1 =>
    have e := Shape.Gathers.idx_of_ne gathers_S100000x128_S128x128 (SparseCore.rows w hn hin) x 1 (by decide)
    refine (Nat.zero_add _).trans (e.trans ?_)
    refine Eq.trans ?_ (ValueKit.view_emb_slice_whole_unit_val main_v0_scv (k0_off2 L) S128x128.size (k0_off2_inb L) x 1).symm
    have e0 : k0_off2 L 1 = 0 := congrFun (k0_off2_eq L) 1
    exact (Nat.zero_add _).symm.trans (congrArg (· + _) e0.symm)

set_option maxHeartbeats 4000000 in
/-- The tile's program: fetch, gather, write out. -/
theorem tile_body (hF : (K (F := F)).Facts) (h : InRows m) (O : CellTallies nD τ sig (HIx 1)) (W : Waits sig (HIx 1)) (hO : ∀ g, O g none = 0) :
    iprop(levAts (K (F := F)).L (K (F := F)).lev ∗ emp
        ∗ task m d (bL L) (m (gLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) gV (Memref.isWhole_whole _)
            sV (Memref.isWhole_whole _) rV (Memref.isWhole_whole _) cc0_scratch2 cc0_scoped0 cc0_scoped1)
          fun _ => iprop(task m d (bL L) (gath m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Ht, Hg⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Hg' := (Entails.of_eq (pts_gK (F := F) d L _).symm) $$ Hg
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  -- the gather: the tile lends its share of the table, its row buffer, its list and the cell
  ihave Hts := (pointsTo_split_subset (q := tq (bL L)) (f := m (tLoc d)) (S := Finset.univ) (Finset.subset_univ (tK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S100000x128_S128x128) (default : HIx 1)
      (rV).view.dmaCredit (hN _) (by decide) (inb_of_rows m d L h fs)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht' := (pointsTo_split_subset (q := tq (bL L)) (f := m (tLoc d)) (S := Finset.univ) (Finset.subset_univ (tK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Ht' Hg']
  · isplitl [Hi']; · iapply (Entails.of_eq (pts_iK (F := F) d L _)); iexact Hi'
    isplitl [Ht']; · iexact Ht'
    iapply (Entails.of_eq (pts_gK (F := F) d L _))
    iapply (Entails.of_eq (pointsTo_congr (fun j hj => (congrFun (View.write_univ_eq_writes_whole (gK L).view (m (gLoc d)) []
      (tile_body.sl.dma0_1 m d L h fs fr)).symm j).trans (out_eq m d L h _ _ (list_val m d L fs) _ _ _ (read_rows d L fr _) j hj))))
    iexact Hg'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) gV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (h : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF h O W hO).trans (wp_mono frame _ _ fun _ => obl_post)

end Tile

/-- A SparseCore's operands are its tiles' already. -/
theorem vecSplit : (K (F := F)).VecSplit' (P m) 0 := by
  intro d c
  show (bigSep Finset.univ fun s : Fin ((K (F := F)).nSub 0) => task m d (tileBlk c s) (m (gLoc d)))
    ⊢ |={Set.univ}=> iprop((bigSep Finset.univ fun s : Fin ((K (F := F)).nSub 0) => task m d (tileBlk c s) (m (gLoc d)))
      ∗ ((bigSep Finset.univ fun s : Fin ((K (F := F)).nSub 0) => task m d (tileBlk c s) (gath m d))
        -∗ (bigSep Finset.univ fun s : Fin ((K (F := F)).nSub 0) => task m d (tileBlk c s) (gath m d))))
  iintro H; imodintro
  isplitl [H]; · iexact H
  iintro H; iexact H

/-! ## The arrays as the tiles' blocks -/

theorem iSet_eq (b : Fin 32) : iSet b = (irow b).set := by
  show ((View.whole (main_arg0_scv : Ref sig .scVector)).slice (irow b)).set = _
  rw [View.set_slice]; exact Finset.map_refl
theorem gSet_eq (b : Fin 32) : gSet b = (grow b).set := by
  show ((View.whole (main_v0_scv : Ref sig .scVector)).slice (grow b)).set = _
  rw [View.set_slice]; exact Finset.map_refl
theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem gSet_disjoint : ∀ i ∈ (Finset.univ : Finset (Fin 32)), ∀ j ∈ (Finset.univ : Finset (Fin 32)), i ≠ j → Disjoint (gSet i) (gSet j) :=
  fun i _ j _ h => by rw [gSet_eq, gSet_eq]; exact Rect.part_disjoint gdiv h
theorem iSet_cover : (Finset.univ : Finset (Fin 32)).biUnion iSet = Finset.univ :=
  (Finset.biUnion_congr rfl fun i _ => iSet_eq i).trans (Rect.biUnion_part idiv)
theorem gSet_cover : (Finset.univ : Finset (Fin 32)).biUnion gSet = Finset.univ :=
  (Finset.biUnion_congr rfl fun i _ => gSet_eq i).trans (Rect.biUnion_part gdiv)

theorem iPts_blocks (d : Dev nD) : (iPts m d : sProp 𝕄) = bigSep Finset.univ fun b : Fin 32 => iBlk m d b := by
  unfold iPts iBlk
  rw [← pointsTo_biUnion Finset.univ (ℓ := iLoc d) iSet iSet_disjoint, iSet_cover]; try rfl
theorem gPts_blocks (d : Dev nD) (f : Buf (Elt F) (gLoc d)) : (gPts d f : sProp 𝕄) = bigSep Finset.univ fun b : Fin 32 => gBlk d b f := by
  unfold gPts gBlk
  rw [← pointsTo_biUnion Finset.univ (ℓ := gLoc d) gSet gSet_disjoint, gSet_cover]; try rfl
theorem tPts_blocks (d : Dev nD) : (tPts m d : sProp 𝕄) = bigSep Finset.univ fun b : Fin 32 => tBlk m d b :=
  pointsTo_piecesOf Finset.univ _ (by decide) fullShare

/-- The three arrays whole are every tile's operands, SparseCore by SparseCore. -/
theorem tasks_eq (d : Dev nD) (f : Buf (Elt F) (gLoc d)) :
    (bigSep Finset.univ fun c : Fin ((K (F := F)).nCore 0) => bigSep Finset.univ fun s : Fin ((K (F := F)).nSub 0) => task m d (tileBlk c s) f)
      = (iprop(iPts m d ∗ tPts m d ∗ gPts d f) : sProp 𝕄) := by
  refine (bigSep_univ_prod (fun p : Fin 2 × Fin 16 => (task m d (blkEquiv p) f : sProp 𝕄))).symm.trans ?_
  rw [← bigSep_univ_equiv blkEquiv (fun b : Fin 32 => (task m d b f : sProp 𝕄)), bigSep_sep', bigSep_sep',
    ← iPts_blocks, ← tPts_blocks, ← gPts_blocks]

theorem st_eq (d : Dev nD) : (bigSep Finset.univ fun c : Fin ((K (F := F)).nCore 0) => (P m).st 0 d c)
    = (iprop(iPts m d ∗ tPts m d ∗ gPts d (m (gLoc d))) : sProp 𝕄) := tasks_eq m d _
theorem dn_eq (d : Dev nD) : (bigSep Finset.univ fun c : Fin ((K (F := F)).nCore 0) => (P m).dn 0 d c)
    = (iprop(iPts m d ∗ tPts m d ∗ gPts d (gath m d)) : sProp 𝕄) := tasks_eq m d _

end Cert.Proof.Ideal

end
-- ==== Proof.IdealRegion.lean ====
/-
  The dense layers on the TensorCore: what the eight grid points of the pipelined region do, with values.

  Point `t` takes rows `512 t … 512 t + 511` of the gathered array, runs the three layers on them (`k1_pay1`) and
  writes the 512 result rows to block `t` of the result. The region is entered with every array at contents `V`; it
  leaves them so but for the result, which ends at `outArr V`. In the levels of the SparseCore handshakes the region's
  waits are at level 0, so what the core's `owes` records stays below what the handshakes ask for.
-/
module

public import proofs.«01_k».proof.Proof.IdealTile
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.Pipeline.Value
public import Idealize.ShloMosaic.Lib.Pipeline.ValueKit.Geometry

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body -/

/-- The rows point `i` loads of the gathered array. -/
abbrev rW0 (i : grid1.Coords) : Rect S4096x128 := Rect.unit (s := S4096x128) (k1_off1 i) S512x128.size (k1_off1_inb i)
abbrev rW1 : Rect S1024x128 := Rect.unit (s := S1024x128) ![0, 0] S1024x128.size inb_S1024x128_S1024x128_0_0
abbrev rW2 : Rect S1x1024 := Rect.unit (s := S1x1024) ![0, 0] S1x1024.size inb_S1x1024_S1x1024_0_0
abbrev rW3 : Rect S512x1024 := Rect.unit (s := S512x1024) ![0, 0] S512x1024.size inb_S512x1024_S512x1024_0_0
abbrev rW4 : Rect S1x512 := Rect.unit (s := S1x512) ![0, 0] S1x512.size inb_S1x512_S1x512_0_0
abbrev rW5 : Rect S1000x512 := Rect.unit (s := S1000x512) ![0, 0] S1000x512.size inb_S1000x512_S1000x512_0_0
abbrev rW6 : Rect S1x1000 := Rect.unit (s := S1x1000) ![0, 0] S1x1000.size inb_S1x1000_S1x1000_0_0
abbrev rW7 : Rect S512x1000 := Rect.unit (s := S512x1000) ![0, 0] S512x1000.size inb_S512x1000_S512x1000_0_0

theorem hz1 : (![0, 0] : Fin S1024x128.rank → Nat) = fun _ => 0 := funext fun a => by fin_cases a <;> rfl
theorem hz2 : (![0, 0] : Fin S1x1024.rank → Nat) = fun _ => 0 := funext fun a => by fin_cases a <;> rfl
theorem hz3 : (![0, 0] : Fin S512x1024.rank → Nat) = fun _ => 0 := funext fun a => by fin_cases a <;> rfl
theorem hz4 : (![0, 0] : Fin S1x512.rank → Nat) = fun _ => 0 := funext fun a => by fin_cases a <;> rfl
theorem hz5 : (![0, 0] : Fin S1000x512.rank → Nat) = fun _ => 0 := funext fun a => by fin_cases a <;> rfl
theorem hz6 : (![0, 0] : Fin S1x1000.rank → Nat) = fun _ => 0 := funext fun a => by fin_cases a <;> rfl
theorem hz7 : (![0, 0] : Fin S512x1000.rank → Nat) = fun _ => 0 := funext fun a => by fin_cases a <;> rfl

theorem ldW1 (x : Vec F S1024x128 .f32) : View.ld x rW1 = x := View.ld_unit_zero hz1 _ x
theorem ldW2 (x : Vec F S1x1024 .f32) : View.ld x rW2 = x := View.ld_unit_zero hz2 _ x
theorem ldW3 (x : Vec F S512x1024 .f32) : View.ld x rW3 = x := View.ld_unit_zero hz3 _ x
theorem ldW4 (x : Vec F S1x512 .f32) : View.ld x rW4 = x := View.ld_unit_zero hz4 _ x
theorem ldW5 (x : Vec F S1000x512 .f32) : View.ld x rW5 = x := View.ld_unit_zero hz5 _ x
theorem ldW6 (x : Vec F S1x1000 .f32) : View.ld x rW6 = x := View.ld_unit_zero hz6 _ x

/-- What the body leaves in the result's buffer at point `i`, from what the input buffers hold. -/
def outBlk (i : grid1.Coords) (x0 : Vec F S4096x128 .f32) (x1 : Vec F S1024x128 .f32) (x2 : Vec F S1x1024 .f32) (x3 : Vec F S512x1024 .f32) (x4 : Vec F S1x512 .f32) (x5 : Vec F S1000x512 .f32) (x6 : Vec F S1x1000 .f32) : Vec F S512x1000 .f32 :=
  k1_pay1 (View.ld x0 (rW0 i)) x1 x2 x3 x4 x5 x6

theorem cover7 (p : Vec F S512x1000 .f32) (y : S512x1000.Idx) :
    ∃ pc ∈ ([⟨rW7, p⟩] : List (View.Piece (Elt F) S512x1000 .f32)), y ∈ pc.1.set :=
  View.cover_of_tiled [⟨rW7, p⟩] S512x1000.size (by rfl) y

theorem sound_kernel (c : Dev nD) (E : Set ℕ) (i : grid1.Coords) (arg1 : Memref sig .tc .vmem S4096x128 .f32) (harg1 : arg1.IsWhole) (arg2 : Memref sig .tc .vmem S1024x128 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1000x512 .f32) (harg6 : arg6.IsWhole) (arg7 : Memref sig .tc .vmem S1x1000 .f32) (harg7 : arg7.IsWhole) (arg8 : Memref sig .tc .vmem S512x1000 .f32) (harg8 : arg8.IsWhole)
    (x0 : Vec F S4096x128 .f32) (x1 : Vec F S1024x128 .f32) (x2 : Vec F S1x1024 .f32) (x3 : Vec F S512x1024 .f32) (x4 : Vec F S1x512 .f32) (x5 : Vec F S1000x512 .f32) (x6 : Vec F S1x1000 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk i x0 x1 x2 x3 x4 x5 x6)) -∗ Q ⟨⟩))
      ⊢ wp frame (wpE (defs₀ (F := F)) 𝒱₀ c none) E (cc1_body i arg1 harg1 arg2 harg2 arg3 harg3 arg4 harg4 arg5 harg5 arg6 harg6 arg7 harg7 arg8 harg8) Q := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover7 _)).trans ?_
  rw [View.canon_unit_zero hz7]
  show k1_pay1 (View.ld (arg1.view.read (Elt F) f0) (rW0 i)) (View.ld (arg2.view.read (Elt F) f1) rW1) (View.ld (arg3.view.read (Elt F) f2) rW2) (View.ld (arg4.view.read (Elt F) f3) rW3) (View.ld (arg5.view.read (Elt F) f4) rW4) (View.ld (arg6.view.read (Elt F) f5) rW5) (View.ld (arg7.view.read (Elt F) f6) rW6) = _
  rw [ldW1, ldW2, ldW3, ldW4, ldW5, ldW6]
  rfl

/-! ## The pipeline's proof data -/

variable (V : (c : Dev nD) → (b : Ref sig .tc) → Buf (Elt F) ((c : Thread nD τ).loc b))

/-- Window `w`'s block at point `t`, as the region finds the array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (grid1.coords t) (iblk V c 0 t) (iblk V c 1 t) (iblk V c 2 t) (iblk V c 3 t) (iblk V c 4 t) (iblk V c 5 t) (iblk V c 6 t)
  Φ _ := iprop(emp)
  q _ := fullShare
  owed _ := 0
  recorded _ := {p | (K (F := F)).lev (SparseCore.T c, p.1) p.2 ≤ 8}

theorem A_eq (c : Dev nD) (w : Fin cfg1.W) : (dats V 0 c).A w = V c (Pipeline.arrRef spec1 w) := by
  dsimp only [dats]

theorem after1_0 (c : Dev nD) (t : Fin cfg1.N) : (dats V 0 c).after 0 t = iblk V c 0 t := by dsimp only [dats]
theorem after1_1 (c : Dev nD) (t : Fin cfg1.N) : (dats V 0 c).after 1 t = iblk V c 1 t := by dsimp only [dats]
theorem after1_2 (c : Dev nD) (t : Fin cfg1.N) : (dats V 0 c).after 2 t = iblk V c 2 t := by dsimp only [dats]
theorem after1_3 (c : Dev nD) (t : Fin cfg1.N) : (dats V 0 c).after 3 t = iblk V c 3 t := by dsimp only [dats]
theorem after1_4 (c : Dev nD) (t : Fin cfg1.N) : (dats V 0 c).after 4 t = iblk V c 4 t := by dsimp only [dats]
theorem after1_5 (c : Dev nD) (t : Fin cfg1.N) : (dats V 0 c).after 5 t = iblk V c 5 t := by dsimp only [dats]
theorem after1_6 (c : Dev nD) (t : Fin cfg1.N) : (dats V 0 c).after 6 t = iblk V c 6 t := by dsimp only [dats]
theorem after1_7 (c : Dev nD) (t : Fin cfg1.N) : (dats V 0 c).after 7 t = outBlk (grid1.coords t) (iblk V c 0 t) (iblk V c 1 t) (iblk V c 2 t) (iblk V c 3 t) (iblk V c 4 t) (iblk V c 5 t) (iblk V c 6 t) := by dsimp only [dats]

theorem before1_0 (c : Dev nD) (t : Fin cfg1.N) (d) : (dats V 0 c).before 0 t d = iblk V c 0 t :=
  (dats V 0 c).before_in_eq_fetched 0 rfl (fun _ => rfl) (fun _ _ _ => rfl) (fun t => after1_0 V c t) t d
theorem before1_1 (c : Dev nD) (t : Fin cfg1.N) (d) : (dats V 0 c).before 1 t d = iblk V c 1 t :=
  (dats V 0 c).before_in_eq_fetched 1 rfl (fun _ => rfl) (fun _ _ _ => rfl) (fun t => after1_1 V c t) t d
theorem before1_2 (c : Dev nD) (t : Fin cfg1.N) (d) : (dats V 0 c).before 2 t d = iblk V c 2 t :=
  (dats V 0 c).before_in_eq_fetched 2 rfl (fun _ => rfl) (fun _ _ _ => rfl) (fun t => after1_2 V c t) t d
theorem before1_3 (c : Dev nD) (t : Fin cfg1.N) (d) : (dats V 0 c).before 3 t d = iblk V c 3 t :=
  (dats V 0 c).before_in_eq_fetched 3 rfl (fun _ => rfl) (fun _ _ _ => rfl) (fun t => after1_3 V c t) t d
theorem before1_4 (c : Dev nD) (t : Fin cfg1.N) (d) : (dats V 0 c).before 4 t d = iblk V c 4 t :=
  (dats V 0 c).before_in_eq_fetched 4 rfl (fun _ => rfl) (fun _ _ _ => rfl) (fun t => after1_4 V c t) t d
theorem before1_5 (c : Dev nD) (t : Fin cfg1.N) (d) : (dats V 0 c).before 5 t d = iblk V c 5 t :=
  (dats V 0 c).before_in_eq_fetched 5 rfl (fun _ => rfl) (fun _ _ _ => rfl) (fun t => after1_5 V c t) t d
theorem before1_6 (c : Dev nD) (t : Fin cfg1.N) (d) : (dats V 0 c).before 6 t d = iblk V c 6 t :=
  (dats V 0 c).before_in_eq_fetched 6 rfl (fun _ => rfl) (fun _ _ _ => rfl) (fun t => after1_6 V c t) t d

/-- What the body is called with at point `t`, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d)) ∗ (∃ d, owns (c : Thread nD τ) (st1_1 t) fullShare ((dats V 0 c).before 1 t d)) ∗ (∃ d, owns (c : Thread nD τ) (st1_2 t) fullShare ((dats V 0 c).before 2 t d)) ∗ (∃ d, owns (c : Thread nD τ) (st1_3 t) fullShare ((dats V 0 c).before 3 t d)) ∗ (∃ d, owns (c : Thread nD τ) (st1_4 t) fullShare ((dats V 0 c).before 4 t d)) ∗ (∃ d, owns (c : Thread nD τ) (st1_5 t) fullShare ((dats V 0 c).before 5 t d)) ∗ (∃ d, owns (c : Thread nD τ) (st1_6 t) fullShare ((dats V 0 c).before 6 t d)) ∗ (∃ d, owns (c : Thread nD τ) (st1_7 t) fullShare ((dats V 0 c).before 7 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t) ∗ owns (c : Thread nD τ) (st1_1 t) fullShare ((dats V 0 c).after 1 t) ∗ owns (c : Thread nD τ) (st1_2 t) fullShare ((dats V 0 c).after 2 t) ∗ owns (c : Thread nD τ) (st1_3 t) fullShare ((dats V 0 c).after 3 t) ∗ owns (c : Thread nD τ) (st1_4 t) fullShare ((dats V 0 c).after 4 t) ∗ owns (c : Thread nD τ) (st1_5 t) fullShare ((dats V 0 c).after 5 t) ∗ owns (c : Thread nD τ) (st1_6 t) fullShare ((dats V 0 c).after 6 t) ∗ owns (c : Thread nD τ) (st1_7 t) fullShare ((dats V 0 c).after 7 t))

theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before1_0, before1_1, before1_2, before1_3, before1_4, before1_5, before1_6]
  rw [show (dats V 0 c).Φ t.succ = (dats V 0 c).Φ t.castSucc from rfl,
    show (dats V 0 c).owesAt none t.succ = (dats V 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg1.N) : defs₀ (F := F) .tc cfg1.body (cfg1.bodyArgs t (cfg1.slots t)) = bodyAt1 t := by
  unfold defs₀; rfl

theorem body_obligation (c : Dev nD) : BodyObligation (dats V 0 c) (defs₀ (F := F)) 𝒱₀ none Set.univ := fun t => by
  rw [bigSep_W1, bigSep_W1, defs₀_row]
  exact triple_restated (sound_body V c t) rfl .rfl fun _ => .rfl

/-! ## What the region leaves in the result -/

/-- The input windows' blocks are their whole arrays. -/
theorem iblk_0 (c : Dev nD) (t : Fin cfg1.N) : iblk V c 0 t = V c main_v0 := by
  have hz : (fun a => (win1_0.index t) a * main_v0.ty.shape.size a) = fun _ => 0 := funext fun a => by fin_cases a <;> exact Nat.zero_mul _
  exact Memref.read_access_unit_zero (Elt F) main_v0 hz (fun a => le_of_eq ((congrArg (· + _) (congrFun hz a)).trans (Nat.zero_add _))) _
theorem iblk_1 (c : Dev nD) (t : Fin cfg1.N) : iblk V c 1 t = V c main_arg2 := by
  have hz : (fun a => (win1_1.index t) a * main_arg2.ty.shape.size a) = fun _ => 0 := funext fun a => by fin_cases a <;> exact Nat.zero_mul _
  exact Memref.read_access_unit_zero (Elt F) main_arg2 hz (fun a => le_of_eq ((congrArg (· + _) (congrFun hz a)).trans (Nat.zero_add _))) _
theorem iblk_2 (c : Dev nD) (t : Fin cfg1.N) : iblk V c 2 t = V c main_v1 := by
  have hz : (fun a => (win1_2.index t) a * main_v1.ty.shape.size a) = fun _ => 0 := funext fun a => by fin_cases a <;> exact Nat.zero_mul _
  exact Memref.read_access_unit_zero (Elt F) main_v1 hz (fun a => le_of_eq ((congrArg (· + _) (congrFun hz a)).trans (Nat.zero_add _))) _
theorem iblk_3 (c : Dev nD) (t : Fin cfg1.N) : iblk V c 3 t = V c main_arg4 := by
  have hz : (fun a => (win1_3.index t) a * main_arg4.ty.shape.size a) = fun _ => 0 := funext fun a => by fin_cases a <;> exact Nat.zero_mul _
  exact Memref.read_access_unit_zero (Elt F) main_arg4 hz (fun a => le_of_eq ((congrArg (· + _) (congrFun hz a)).trans (Nat.zero_add _))) _
theorem iblk_4 (c : Dev nD) (t : Fin cfg1.N) : iblk V c 4 t = V c main_v2 := by
  have hz : (fun a => (win1_4.index t) a * main_v2.ty.shape.size a) = fun _ => 0 := funext fun a => by fin_cases a <;> exact Nat.zero_mul _
  exact Memref.read_access_unit_zero (Elt F) main_v2 hz (fun a => le_of_eq ((congrArg (· + _) (congrFun hz a)).trans (Nat.zero_add _))) _
theorem iblk_5 (c : Dev nD) (t : Fin cfg1.N) : iblk V c 5 t = V c main_arg6 := by
  have hz : (fun a => (win1_5.index t) a * main_arg6.ty.shape.size a) = fun _ => 0 := funext fun a => by fin_cases a <;> exact Nat.zero_mul _
  exact Memref.read_access_unit_zero (Elt F) main_arg6 hz (fun a => le_of_eq ((congrArg (· + _) (congrFun hz a)).trans (Nat.zero_add _))) _
theorem iblk_6 (c : Dev nD) (t : Fin cfg1.N) : iblk V c 6 t = V c main_v3 := by
  have hz : (fun a => (win1_6.index t) a * main_v3.ty.shape.size a) = fun _ => 0 := funext fun a => by fin_cases a <;> exact Nat.zero_mul _
  exact Memref.read_access_unit_zero (Elt F) main_v3 hz (fun a => le_of_eq ((congrArg (· + _) (congrFun hz a)).trans (Nat.zero_add _))) _

/-- The point that writes row `j 0` of the result, -/
def ptOf (j : S4096x1000.Idx) : Fin cfg1.N := ⟨(j 0).val / 512, by have h : (j 0).val < 4096 := (j 0).isLt; have := N_1; show _ < grid1.N; omega⟩
/-- and the row's place in the point's block. -/
def inBlk (j : S4096x1000.Idx) : S512x1000.Idx := fun a => match a with
  | 0 => (⟨(j 0).val % 512, Nat.mod_lt _ (by decide)⟩ : Fin 512)
  | 1 => (j 1 : Fin 1000)

/-- The result array after the region. -/
def outArr (c : Dev nD) : S4096x1000.Idx → Elt F .f32 := fun j =>
  outBlk (grid1.coords (ptOf j)) (V c main_v0) (V c main_arg2) (V c main_v1) (V c main_arg4) (V c main_v2) (V c main_arg6) (V c main_v3) (inBlk j)

/-- Window 7's block at point `t` is rows `512 t … 512 t + 511`, every column. -/
theorem rect7 (t : Fin cfg1.N) : win1_7.index t 0 * win1_7.size 0 = t.val * 512 ∧ win1_7.xsize (grid1.coords t) 0 = 512
    ∧ win1_7.index t 1 * win1_7.size 1 = 0 ∧ win1_7.xsize (grid1.coords t) 1 = 1000 := by
  rcases fin_N1 t with rfl | rfl | rfl | rfl | rfl | rfl | rfl | rfl <;> decide +kernel

theorem flushed_eq (c : Dev nD) (t : Fin cfg1.N) :
    (dats V 0 c).flushed 7 t = (win1_7.blk t).view.read (Elt F) (outArr V c) := by
  show (cfg1.win 7).cut (grid1.coords t) ((dats V 0 c).after 7 t) = _
  rw [after1_7, iblk_0, iblk_1, iblk_2, iblk_3, iblk_4, iblk_5, iblk_6]
  funext x
  show _ = outArr V c ((win1_7.rect t).emb x)
  obtain ⟨r0, rx, r1, -⟩ := rect7 t
  have h0 : ((win1_7.rect t).emb x 0).val = t.val * 512 + (x 0).val := by
    rw [← r0]; exact ValueKit.rect_emb_unit_val _ _ _ x 0
  have h1 : ((win1_7.rect t).emb x 1).val = (x 1).val := by
    refine (ValueKit.rect_emb_unit_val _ _ _ x 1).trans ?_
    exact (congrArg (· + (x 1).val) r1).trans (Nat.zero_add _)
  have hx : (x 0).val < 512 := lt_of_lt_of_eq (x 0).isLt rx
  have e1 : ptOf ((win1_7.rect t).emb x) = t := Fin.ext (by show ((win1_7.rect t).emb x 0).val / 512 = t.val; omega)
  have e2 : inBlk ((win1_7.rect t).emb x) = x := by
    funext a; match a with
    | ⟨0, _⟩ => exact Fin.ext (by show ((win1_7.rect t).emb x 0).val % 512 = (x 0).val; omega)
    | ⟨1, _⟩ => exact Fin.ext h1
  unfold outArr
  rw [e1, e2]

theorem cover (j : S4096x1000.Idx) : ∃ t : Fin cfg1.N, (cfg1.win 7).flush t = true ∧ j ∈ ((cfg1.win 7).blk t).view.set := by
  refine ⟨ptOf j, flush1_7 _, ?_⟩
  show j ∈ ((View.whole main_v4).slice (win1_7.rect (ptOf j))).set
  rw [View.set_slice_whole, Rect.mem_set_unit]
  obtain ⟨r0, rx, r1, ry⟩ := rect7 (ptOf j)
  intro a
  match a with
  | ⟨0, _⟩ =>
    show win1_7.index (ptOf j) 0 * win1_7.size 0 ≤ (j 0 : Nat) ∧ (j 0 : Nat) < win1_7.index (ptOf j) 0 * win1_7.size 0 + win1_7.xsize (grid1.coords (ptOf j)) 0
    rw [r0, rx]
    show (j 0).val / 512 * 512 ≤ (j 0).val ∧ (j 0).val < (j 0).val / 512 * 512 + 512
    omega
  | ⟨1, _⟩ =>
    have h1 : (j 1 : Nat) < 1000 := (j 1).isLt
    show win1_7.index (ptOf j) 1 * win1_7.size 1 ≤ (j 1 : Nat) ∧ (j 1 : Nat) < win1_7.index (ptOf j) 1 * win1_7.size 1 + win1_7.xsize (grid1.coords (ptOf j)) 1
    rw [r1, ry]
    omega

theorem final_out (c : Dev nD) : (dats V 0 c).arrAt 7 cfg1.N = outArr V c :=
  (dats V 0 c).arrAt_eq_of_cover 7 (outArr V c) (fun t _ => flushed_eq V c t) cover

/-! ## The region -/

/-- No core owes another anything during the region: no level is assigned. -/
abbrev noL : GSem nD τ sig → Finset (HIx 1) := fun _ => ∅
abbrev noLv : GSem nD τ sig → HIx 1 → ℕ := fun _ _ => 0
abbrev adm : (p : Fin 1) → (pcfgs (F := F) p).Adm := fun p => (cfgs p).toPCfg_adm

/-- The core owes nothing, every wait it recorded within level 8. -/
abbrev owesBelow (c : Dev nD) : sProp 𝕄 :=
  iprop(∃ W, ⌜(K (F := F)).WBelow (SparseCore.T c) W 8⌝ ∗ owes (SparseCore.T c) (0 : CellTallies nD τ sig (HIx 1)) W)

theorem ownSemFacts : Pipeline.OwnSemFacts spec1 (fun k : Fin 0 => k.elim0) := by decide

set_option backward.isDefEq.respectTransparency.types false in
/-- The region: entered with the arrays at `V`, left with the windows' arrays at what the pipeline leaves in them. -/
def reg : Pipeline.RegionSeg (pcfgs (F := F)) adm (dats V) none defs₀ 𝒱₀ noL noLv 0 where
  win := launch1.win.to₀
  block_pos := launch1.block_pos
  stage_whole := launch1.stage_whole
  K := Fin 0
  osem := fun k => k.elim0
  ho := ownSemFacts
  hbody c := (body_obligation V c).loose
  hwaits := Pipeline.hwaits_of_owed_zero _ _ _ _ noL noLv 0 fun _ _ => rfl
  pre c := iprop(unscopedBufs c (V c) ∗ owesBelow c)
  post c := iprop(((dats V 0 c).arrays ((dats V 0 c).arrAt · cfg1.N) ∗ Pipeline.unscopedRest spec1 c (V c)) ∗ owesBelow c)
  X c := iprop(emp)
  Y c := iprop(emp)
  Z c := Pipeline.unscopedRest spec1 c (V c)
  hentry c := by
    have hsplit := Pipeline.arrays_of_unscopedBufs (pcfgs (F := F)) adm (dats V) launch1.win launch1.arr_whole c
      ((dats V 0 c).share_full fun _ => rfl) (V c) (A_eq V c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show (dats V 0 c).Φ 0 = iprop(emp) from rfl]
    iintro -; iempintro
  hout c := by
    iintro -
    isplitr; · iempintro
    isplitr
    · unfold Pipeline.ownSems0; rw [show (Finset.univ : Finset (Fin 0)) = ∅ from rfl, BI.bigSep_empty]; iempintro
    · iapply (Entails.of_eq (scopedRest1_eq c).symm); iempintro
  hexit c := by
    iintro ⟨Ha, HO, -, Hr⟩
    imodintro
    isplitl [Ha Hr]
    · isplitl [Ha] <;> iassumption
    · unfold Pipeline.Dat.owesAt Pipeline.owesWithin
      icases HO with ⟨%W, %hW, HO⟩; iexists W; isplitr
      · ipureintro
        intro p hp
        rcases hW hp with h | ⟨w, s, rfl⟩
        · exact h
        · exact Nat.zero_le _
      · iexact HO

end Cert.Proof.Ideal

end
-- ==== Proof.IdealRun.lean ====
/-
  The whole program's run: @main on the TensorCore — the SparseCore call, the three bias reshapes, the pipelined
  region — and what the machine's final states hold.

  From any launch memory whose `state` names rows of the table, with every counter at zero: every weakly fair execution
  terminates, nothing faulting, with the eight arguments as launched, every counter at zero, and the result at
  `result m`: the three layers (`outArr`) of the gathered rows (`gath`).
-/
module

public import proofs.«01_k».proof.Proof.IdealRegion

@[expose] public section

noncomputable section

namespace Cert.Proof.Ideal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The pipeline library's part of the ghost state, embedded. -/
def EP : Emb UPp (MT nD τ sig (HIx 1) (Elt F) ℕ UU ℕ) := (Emb.inl : Emb UPp (UPp × Counters)).trans embR

instance EP_landsIn : (EP (F := F)).LandsIn (upEmb : UEmb _ 𝕄) := by unfold EP embR; infer_instance

def u₀ : UU := (initOf (K (F := F)).hsCells (K (F := F)).hsToks, (initOf (Pipeline.cells cfgs cellOf_inj) (Pipeline.launchToks cfgs cellOf_inj), 1))

/-- What the launch deals each TensorCore for the region's staging cells. -/
abbrev G (d : Dev nD) : sProp 𝕄 := iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (show (BI.own (embR (initOf (Pipeline.cells cfgs cellOf_inj) (Pipeline.launchToks cfgs cellOf_inj), (1 : Counters))) : sProp 𝕄)
      ⊢ iprop(BI.own (EP (F := F) (initOf (Pipeline.cells cfgs cellOf_inj) (Pipeline.launchToks cfgs cellOf_inj))) ∗ BI.own ((Emb.inr.trans embR) (1 : Counters)))
    from own_pair_emb (A := UPp) (B := Counters) (embR : Emb (UPp × Counters) 𝕄) _ _) $$ HR
  icases H with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · rw [bigSep_congr fun d _ => (bigSep_univ_of_subsingleton (Φ := fun p : Fin 1 => Pipeline.cellsGhost cfgs (EP (F := F)) p d) (0 : Fin 1)).symm]; iexact Hg
    · rw [bigSep_congr fun d _ => (bigSep_univ_of_subsingleton (Φ := fun p : Fin 1 => Pipeline.toksInit cfgs (EP (F := F)) p d) (0 : Fin 1)).symm]; iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (BI.bigSep_emp_const (M := 𝕄) (Finset.univ : Finset (Thread nD τ))).symm)
  iempintro

/-! ## The region's call -/

/-- The pipelined region's call, in the region's own signature. -/
abbrev call : Prog (TpuEff nD τ sig (Elt F) (ΛP (F := F)) .tc) PUnit := .op (.customCall (Pipeline.entry 0) ()) .ret

theorem call_eq : (Prog.lift (.customCall (SparseCore.inner (Pipeline.entry 0)) ())
      : Prog (TpuEff nD τ sig (Elt F) (SparseCore.Sig (ΛP (F := F)) 1) .tc) PUnit) = SparseCore.liftProg (call (F := F)) := rfl

theorem reg_pre (V : (c : Dev nD) → (b : Ref sig .tc) → Buf (Elt F) ((c : Thread nD τ).loc b)) (d : Dev nD) :
    (reg V).pre d = iprop(unscopedBufs d (V d) ∗ owesBelow d) := rfl
theorem reg_post (V : (c : Dev nD) → (b : Ref sig .tc) → Buf (Elt F) ((c : Thread nD τ).loc b)) (d : Dev nD) :
    (reg V).post d = iprop(((dats V 0 d).arrays ((dats V 0 d).arrAt · cfg1.N) ∗ Pipeline.unscopedRest spec1 d (V d)) ∗ owesBelow d) := rfl

set_option backward.isDefEq.respectTransparency.types false in
theorem region_call (V : (c : Dev nD) → (b : Ref sig .tc) → Buf (Elt F) ((c : Thread nD τ).loc b)) (d : Dev nD) (Q : PUnit → sProp 𝕄) :
    iprop((iprop(boundary (T d) ∗ ((dats V 0 d).arrays ((dats V 0 d).arrAt · cfg1.N) ∗ Pipeline.unscopedRest spec1 d (V d)) ∗ owesBelow d) -∗ |={Set.univ}=> Q ⟨⟩) ∗ boundary (T d) ∗ iprop(unscopedBufs d (V d) ∗ owesBelow d) ∗ G (F := F) d)
      ⊢ wp frame (wpE ((K (F := F)).defs (D (F := F))) 𝒱 (T d) none) Set.univ (Prog.lift (.customCall (SparseCore.inner (Pipeline.entry 0)) ())) Q := by
  rw [call_eq]
  refine BIBase.Entails.trans ?_ ((K (F := F)).wp_liftProg (D (F := F)) 𝒱 (T d) Set.univ none _ Q)
  refine BIBase.Entails.trans ?_ (Pipeline.RegionSeg.wp (pcfgs (F := F)) adm (dats V) none cellOf_inj (EP (F := F)) defs₀ 𝒱₀ noL noLv (reg V) d none
    (fun u hu => nomatch hu) Prog.ret Q)
  rw [reg_pre, reg_post]
  iintro ⟨Hk, Hb, Hpre, Hg, Ht⟩
  isplitl [Hk]
  · iintro H; rw [wp_ret]; iapply Hk; iexact H
  isplitl [Hb]; · iexact Hb
  isplitl [Hpre]; · iexact Hpre
  isplitr
  · unfold levAts; simp only [bigSep_empty]; rw [BI.bigSep_emp_const]; iempintro
  isplitl [Hg]; · iexact Hg
  iexact Ht

/-! ## The arrays through @main -/

abbrev op1 : HloOp τ sig (Elt F) := StableHlo.reshape main_arg3 main_v1 (rfl : (.f32 : EltTy) = .f32) shapeCasts_S1024_S1x1024
abbrev op2 : HloOp τ sig (Elt F) := StableHlo.reshape main_arg5 main_v2 (rfl : (.f32 : EltTy) = .f32) shapeCasts_S512_S1x512
abbrev op3 : HloOp τ sig (Elt F) := StableHlo.reshape main_arg7 main_v3 (rfl : (.f32 : EltTy) = .f32) shapeCasts_S1000_S1x1000

abbrev g' : DevRef τ sig := Proc.devRef .tc (main_v0 : Ref sig .tc)

/-- After the SparseCore call: as launched but for the gathered array; -/
def V1 (d : Dev nD) : Valuation τ sig (Elt F) := Function.update (fun b => m (d, b)) g' (gath m d)
/-- after the three reshapes, at the region's entry. -/
def V4 (d : Dev nD) : Valuation τ sig (Elt F) := (op3 (F := F)).result ((op2 (F := F)).result ((op1 (F := F)).result (V1 m d)))
abbrev Vr (c : Dev nD) (b : Ref sig .tc) : Buf (Elt F) ((c : Thread nD τ).loc b) := V4 m c (Proc.devRef .tc b)

theorem V1_g (d : Dev nD) : V1 m d g' = gath m d := Function.update_self _ _ _
theorem V1_ne (d : Dev nD) (b : DevRef τ sig) (h : b ≠ g') : V1 m d b = m (d, b) := Function.update_of_ne h _ _

/-- The reshapes leave every array but theirs. -/
theorem V4_ne (d : Dev nD) (b : Ref sig .tc) (h1 : b ≠ main_v1) (h2 : b ≠ main_v2) (h3 : b ≠ main_v3) :
    V4 m d (Proc.devRef .tc b) = V1 m d (Proc.devRef .tc b) := by
  unfold V4
  rw [StableHlo.reshape_result_ne (h := h3), StableHlo.reshape_result_ne (h := h2), StableHlo.reshape_result_ne (h := h1)]

/-- An argument reaches the region, and the end, as launched. -/
theorem Vr_arg (d : Dev nD) (b : Ref sig .tc) (h : b ≠ main_v0 ∧ b ≠ main_v1 ∧ b ≠ main_v2 ∧ b ≠ main_v3) :
    Vr m d b = m ((d : Thread nD τ).loc b) :=
  (V4_ne m d b h.2.1 h.2.2.1 h.2.2.2).trans (V1_ne m d _ (StableHlo.devRef_ne_of_ne h.1))
theorem Vr_g (d : Dev nD) : Vr m d main_v0 = gath m d :=
  (V4_ne m d main_v0 (by decide) (by decide) (by decide)).trans (V1_g m d)
/-- The biases as the region sees them: one row each. -/
theorem Vr_1 (d : Dev nD) : Vr m d main_v1 = shapeCast S1x1024 (m ((d : Thread nD τ).loc main_arg3)) shapeCasts_S1024_S1x1024 := by
  show V4 m d _ = _
  unfold V4
  rw [StableHlo.reshape_result_ne (h := by decide), StableHlo.reshape_result_ne (h := by decide), StableHlo.reshape_result,
    V1_ne m d _ (by decide)]
  rfl
theorem Vr_2 (d : Dev nD) : Vr m d main_v2 = shapeCast S1x512 (m ((d : Thread nD τ).loc main_arg5)) shapeCasts_S512_S1x512 := by
  show V4 m d _ = _
  unfold V4
  rw [StableHlo.reshape_result_ne (h := by decide), StableHlo.reshape_result, StableHlo.reshape_result_ne (h := by decide),
    V1_ne m d _ (by decide)]
  rfl
theorem Vr_3 (d : Dev nD) : Vr m d main_v3 = shapeCast S1x1000 (m ((d : Thread nD τ).loc main_arg7)) shapeCasts_S1000_S1x1000 := by
  show V4 m d _ = _
  unfold V4
  rw [StableHlo.reshape_result, StableHlo.reshape_result_ne (h := by decide), StableHlo.reshape_result_ne (h := by decide),
    V1_ne m d _ (by decide)]
  rfl

/-- The result. -/
abbrev result (d : Dev nD) : S4096x1000.Idx → Elt F .f32 := outArr (Vr m) d

/-- The TensorCore's unscoped arrays, as device buffers. -/
def ucRefs : Finset (DevRef τ sig) := (StableHlo.tcRefs τ sig).filter fun b => ¬ b.isScoped

theorem unscopedBufs_held (c : Dev nD) (W : Valuation τ sig (Elt F)) :
    (unscopedBufs c (fun b => W (Proc.devRef .tc b)) : sProp 𝕄) = held (T c) ucRefs W := by
  unfold unscopedBufs held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem unscopedBufs_eq (d : Dev nD) (W : (b : Ref sig .tc) → Buf (Elt F) ((d.tc : Thread nD τ).loc b)) :
    (unscopedBufs d W : sProp 𝕄)
      = iprop(((SparseCore.T d : Thread nD τ).loc main_arg0 ↦{fullShare} W main_arg0) ∗ ((SparseCore.T d : Thread nD τ).loc main_arg1 ↦{fullShare} W main_arg1) ∗ ((SparseCore.T d : Thread nD τ).loc main_arg2 ↦{fullShare} W main_arg2) ∗ ((SparseCore.T d : Thread nD τ).loc main_arg3 ↦{fullShare} W main_arg3) ∗ ((SparseCore.T d : Thread nD τ).loc main_arg4 ↦{fullShare} W main_arg4) ∗ ((SparseCore.T d : Thread nD τ).loc main_arg5 ↦{fullShare} W main_arg5) ∗ ((SparseCore.T d : Thread nD τ).loc main_arg6 ↦{fullShare} W main_arg6) ∗ ((SparseCore.T d : Thread nD τ).loc main_arg7 ↦{fullShare} W main_arg7) ∗ ((SparseCore.T d : Thread nD τ).loc main_v0 ↦{fullShare} W main_v0) ∗ ((SparseCore.T d : Thread nD τ).loc main_v1 ↦{fullShare} W main_v1) ∗ ((SparseCore.T d : Thread nD τ).loc main_v2 ↦{fullShare} W main_v2) ∗ ((SparseCore.T d : Thread nD τ).loc main_v3 ↦{fullShare} W main_v3) ∗ ((SparseCore.T d : Thread nD τ).loc main_v4 ↦{fullShare} W main_v4)) := by
  unfold unscopedBufs
  rw [show (Finset.univ.filter fun b : Ref sig .tc => ¬ b.isScoped) = {main_arg0, main_arg1, main_arg2, main_arg3, main_arg4, main_arg5, main_arg6, main_arg7, main_v0, main_v1, main_v2, main_v3, main_v4} by decide]
  repeat rw [SparseCore.bigSep_insert' (by decide)]
  rw [bigSep_singleton]

/-! ## @main -/

/-- What @main leaves: the windows' arrays at what the region leaves in them, the other arrays as the region found them. -/
abbrev FIN (d : Dev nD) : sProp 𝕄 :=
  iprop((dats (Vr m) 0 d).arrays ((dats (Vr m) 0 d).arrAt · cfg1.N) ∗ Pipeline.unscopedRest spec1 d (Vr m d))

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, H6, H7, H8, H9, H10, H11, H12⟩, Hts, -⟩, Hg⟩
  iapply ((K (F := F)).wp_run (D (F := F)) 𝒱 (EH := EH) (P := P m) κ d 0) $$ [Hst Hb Hts Hg H0 H1 H2 H3 H4 H5 H6 H7 H8 H9 H10 H11 H12]
  isplitr; · iexact Hctx
  isplitl [Hst]; · iexact Hst
  isplitl [H0 H1 H8]
  · rw [st_eq]
    isplitl [H0]; · iexact H0
    isplitl [H1]; · iexact H1
    iexact H8
  iintro ⟨Hst, Hdn⟩
  ihave Hdn' := (Entails.of_eq (dn_eq m d)) $$ Hdn
  icases Hdn' with ⟨H0, H1, H8⟩
  ihave Hheld : held (T d) ucRefs (V1 m d) $$ [H0 H1 H2 H3 H4 H5 H6 H7 H8 H9 H10 H11 H12]
  · rw [← unscopedBufs_held, unscopedBufs_eq]
    rw [V1_ne m d (Proc.devRef .tc main_arg0) (by decide)]
    rw [V1_ne m d (Proc.devRef .tc main_arg1) (by decide)]
    rw [V1_ne m d (Proc.devRef .tc main_arg2) (by decide)]
    rw [V1_ne m d (Proc.devRef .tc main_arg3) (by decide)]
    rw [V1_ne m d (Proc.devRef .tc main_arg4) (by decide)]
    rw [V1_ne m d (Proc.devRef .tc main_arg5) (by decide)]
    rw [V1_ne m d (Proc.devRef .tc main_arg6) (by decide)]
    rw [V1_ne m d (Proc.devRef .tc main_arg7) (by decide)]
    rw [V1_g m d]
    rw [V1_ne m d (Proc.devRef .tc main_v1) (by decide)]
    rw [V1_ne m d (Proc.devRef .tc main_v2) (by decide)]
    rw [V1_ne m d (Proc.devRef .tc main_v3) (by decide)]
    rw [V1_ne m d (Proc.devRef .tc main_v4) (by decide)]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iapply (wp_hlo_within 𝒱 (T d) none Set.univ (op := op1) (S := ucRefs) (sub_ucRefs _ (StableHlo.reshape_bufs_sub ..)) (V := V1 m d)) $$ [Hb Hheld]
  · isplitl [Hb] <;> iassumption
  iintro ⟨Hb, Hheld⟩
  rw [wp_ret]; imodintro
  iapply (wp_hlo_within 𝒱 (T d) none Set.univ (op := op2) (S := ucRefs) (sub_ucRefs _ (StableHlo.reshape_bufs_sub ..)) (V := (op1 (F := F)).result (V1 m d))) $$ [Hb Hheld]
  · isplitl [Hb] <;> iassumption
  iintro ⟨Hb, Hheld⟩
  rw [wp_ret]; imodintro
  iapply (wp_hlo_within 𝒱 (T d) none Set.univ (op := op3) (S := ucRefs) (sub_ucRefs _ (StableHlo.reshape_bufs_sub ..)) (V := (op2 (F := F)).result ((op1 (F := F)).result (V1 m d)))) $$ [Hb Hheld]
  · isplitl [Hb] <;> iassumption
  iintro ⟨Hb, Hheld⟩
  rw [wp_ret]; imodintro
  ihave Hub := (show held (T d) ucRefs ((op3 (F := F)).result ((op2 (F := F)).result ((op1 (F := F)).result (V1 m d)))) ⊢ (unscopedBufs d (Vr m d) : sProp 𝕄) from
    Entails.of_eq (unscopedBufs_held d (V4 m d)).symm) $$ Hheld
  unfold SparseCore.Cfg.tcSt
  icases Hst with ⟨⟨%W, %hW, HO⟩, Hst⟩
  rw [(K (F := F)).Otc_end d (show 1 ≤ (0 : Fin 1).val + 1 from le_refl _), (K (F := F)).Otc_end d (le_refl 1)]
  iapply (region_call (Vr m) d)
  isplitl [Hst Hts]
  · iintro ⟨Hb, ⟨HF, ⟨%W', %hW', HO⟩⟩⟩
    imodintro; imodintro
    isplitl [Hst HO]
    · isplitl [HO]
      · iexists W'; isplitr; · ipureintro; exact hW'
        iexact HO
      · iexact Hst
    isplitl [HF]; · iexact HF
    isplitl [Hb] <;> iassumption
  isplitl [Hb]; · iexact Hb
  isplitl [Hub HO]
  · isplitl [Hub]; · iexact Hub
    iexists W; isplitr; · ipureintro; exact hW
    iexact HO
  iexact Hg

/-! ## The final states -/

/-- What the claims read of device `d`'s final memory. -/
def fq (d : Dev nD) (s' : Phys nD τ sig (Elt F)) : Prop :=
  s'.mem.mem ((d : Thread nD τ).loc main_v4) = result m d
    ∧ s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)
    ∧ s'.mem.mem ((d : Thread nD τ).loc main_arg6) = m ((d : Thread nD τ).loc main_arg6)
    ∧ s'.mem.mem ((d : Thread nD τ).loc main_arg7) = m ((d : Thread nD τ).loc main_arg7)

set_option backward.isDefEq.respectTransparency.types false in
theorem hfin (d : Dev nD) (s' : Phys nD τ sig (Elt F)) : iprop(FIN m d ∗ SI s') ⊢ (⌜fq m d s'⌝ : sProp 𝕄) := by
  show iprop((_ ∗ Pipeline.unscopedRest spec1 d (Vr m d)) ∗ SI s') ⊢ _
  rw [unscopedRest1_eq]
  iintro ⟨⟨Ha, H0, H1, H3, H5, H7⟩, HSI⟩
  ihave H := (persistent_entails_right (SI_pointsTo_agree (st := s') (ℓ := (d : Thread nD τ).loc main_arg0) (I := Finset.univ) (q := fullShare) (f := Vr m d main_arg0))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare) (f := Vr m d main_arg1))) $$ [HSI H1]
  · isplitl [HSI] <;> iassumption
  icases H with ⟨%h1, HSI, -⟩
  ihave H := (persistent_entails_right (SI_pointsTo_agree (st := s') (ℓ := (d : Thread nD τ).loc main_arg3) (I := Finset.univ) (q := fullShare) (f := Vr m d main_arg3))) $$ [HSI H3]
  · isplitl [HSI] <;> iassumption
  icases H with ⟨%h3, HSI, -⟩
  ihave H := (persistent_entails_right (SI_pointsTo_agree (st := s') (ℓ := (d : Thread nD τ).loc main_arg5) (I := Finset.univ) (q := fullShare) (f := Vr m d main_arg5))) $$ [HSI H5]
  · isplitl [HSI] <;> iassumption
  icases H with ⟨%h5, HSI, -⟩
  ihave H := (persistent_entails_right (SI_pointsTo_agree (st := s') (ℓ := (d : Thread nD τ).loc main_arg7) (I := Finset.univ) (q := fullShare) (f := Vr m d main_arg7))) $$ [HSI H7]
  · isplitl [HSI] <;> iassumption
  icases H with ⟨%h7, HSI, -⟩
  ihave Hr := (Pipeline.arrays_read (pcfgs (F := F)) adm (dats (Vr m)) launch1.arr_whole d ((dats (Vr m) 0 d).share_full fun _ => rfl) _ s') $$ [Ha HSI]
  · isplitl [Ha] <;> iassumption
  icases Hr with ⟨%ha, -⟩
  ipureintro
  refine ⟨(ha 7).trans (final_out (Vr m) d), ?_, ?_, ?_, ?_, ?_, ?_, ?_, ?_⟩
  · exact (funext fun i => h0 i (Finset.mem_univ i)).trans (Vr_arg m d main_arg0 (by decide))
  · exact (funext fun i => h1 i (Finset.mem_univ i)).trans (Vr_arg m d main_arg1 (by decide))
  · exact ((ha 1).trans ((dats (Vr m) 0 d).arrAt_in 1 rfl _)).trans (Vr_arg m d main_arg2 (by decide))
  · exact (funext fun i => h3 i (Finset.mem_univ i)).trans (Vr_arg m d main_arg3 (by decide))
  · exact ((ha 3).trans ((dats (Vr m) 0 d).arrAt_in 3 rfl _)).trans (Vr_arg m d main_arg4 (by decide))
  · exact (funext fun i => h5 i (Finset.mem_univ i)).trans (Vr_arg m d main_arg5 (by decide))
  · exact ((ha 5).trans ((dats (Vr m) 0 d).arrAt_in 5 rfl _)).trans (Vr_arg m d main_arg6 (by decide))
  · exact (funext fun i => h7 i (Finset.mem_univ i)).trans (Vr_arg m d main_arg7 (by decide))

/-- The program's run. -/
theorem run_main [∀ e, Nonempty (Elt F e)] (hpre : InRows m) :
    θ_run (Cert.KernelIdeal.defs (F := F)) (Cert.KernelIdeal.threads (F := F)) ⟨m, fun _ => 0, ρ⟩ (fun r =>
      (∀ c : Dev nD, r.2.mem ((c : Thread nD τ).loc main_v4) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7))
      ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) _ (fun _ h hz => ⟨h, hz⟩)

end Cert.Proof.Ideal

end
-- ==== Proof.Pre.lean ====
/-
  The precondition read: every word of `state` names a row of the table.
-/
module

public import proofs.«01_k».proof.Proof.Gen.Pre_in_vocab
public import Idealize.ShloMosaic.Lib.ReduceAll
public import Idealize.ShloMosaic.Lib.StableHlo.Predicate

@[expose] public section

namespace Cert.Proof

open Idealize.ShloMosaic
open Cert.Pre_in_vocab Cert.Pre_in_vocab.Gen

/-- Where `in_vocab` is one, every word is below the table's number of rows. -/
theorem words_of_pre {F : FTy → Type} [FloatOps F] (st : IVec S4096 32) (a1 : FVec F S100000x128 .f32) (a2 : FVec F S1024x128 .f32)
    (a3 : FVec F S1024 .f32) (a4 : FVec F S512x1024 .f32) (a5 : FVec F S512 .f32) (a6 : FVec F S1000x512 .f32) (a7 : FVec F S1000 .f32)
    (h : Cert.Pre_in_vocab.fn st a1 a2 a3 a4 a5 a6 a7 = fun _ => 1#1) (j : S4096.Idx) : (st j).toNat < 100000 := by
  have e := congrFun h (fun a => a.elim0)
  dsimp only [Cert.Pre_in_vocab.fn] at e
  haveI : Subsingleton S_.Idx := ⟨fun a b => funext fun i => i.elim0⟩
  obtain ⟨e1, e2⟩ := IntOp.andi_eq_one.1 (Host.reduce_andi_all _ _ _ _ _ e j)
  change IntOp.cmpi .sge (st j) 0#32 = 1#1 at e1
  change IntOp.cmpi .slt (st j) 100000#32 = 1#1 at e2
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at e1 e2
  omega

end Cert.Proof
-- ==== Proof.Value.lean ====
/-
  The value, at the ideal instance: element `(r, q)` of the kernel's result and of the reference's are both `mlp` — three
  dense layers, the first two followed by a maximum with zero — of row `state r` of the table, output `q`.

  The kernel contracts a layer's input with the weight's second axis; the reference transposes the weight and contracts
  with its first. Read at an index both are the same sum. The reference takes rows with a `jnp.take`: a negative word
  counts from the table's end, and a row whose word is out of range is masked; with every word in range neither occurs.
-/
module

public import proofs.«01_k».proof.Proof.IdealRun
public import proofs.«01_k».proof.Proof.Gen.ReferenceIdeal.Run
public import Idealize.ShloMosaic.Lib.Pointwise
public import Idealize.ShloMosaic.Lib.ReduceAll
public import Idealize.ShloMosaic.Lib.Routing.Ops

@[expose] public section

noncomputable section

namespace Cert.Proof

open Idealize.ShloMosaic Idealize.ShloMosaic.TcCoe

/-- Output `q` of the three layers applied to the row `x`. -/
def mlp (x : Fin 128 → EReal) (W1 : FVec Ideal ⟨2, ![1024, 128]⟩ .f32) (b1 : FVec Ideal ⟨1, ![1024]⟩ .f32)
    (W2 : FVec Ideal ⟨2, ![512, 1024]⟩ .f32) (b2 : FVec Ideal ⟨1, ![512]⟩ .f32)
    (W3 : FVec Ideal ⟨2, ![1000, 512]⟩ .f32) (b3 : FVec Ideal ⟨1, ![1000]⟩ .f32) (q : Fin 1000) : EReal :=
  (∑ v : Fin 512, max ((∑ u : Fin 1024, max ((∑ k : Fin 128, x k * W1 (ix2 u k)) + b1 (ix1 u)) 0 * W2 (ix2 v u)) + b2 (ix1 v)) 0 * W3 (ix2 q v))
    + b3 (ix1 q)

/-! ## The kernel -/

section Kernel

open Cert.KernelIdeal Cert.KernelIdeal.Gen

/-- The kernel's block: `mlp` of each of its rows. -/
theorem pay_apply (x : FVec Ideal S512x128 .f32) (W1 : FVec Ideal S1024x128 .f32) (b1 : FVec Ideal S1024 .f32)
    (W2 : FVec Ideal S512x1024 .f32) (b2 : FVec Ideal S512 .f32) (W3 : FVec Ideal S1000x512 .f32) (b3 : FVec Ideal S1000 .f32) (y : S512x1000.Idx) :
    k1_pay1 (F := Ideal) x W1 (shapeCast S1x1024 b1 shapeCasts_S1024_S1x1024) W2 (shapeCast S1x512 b2 shapeCasts_S512_S1x512) W3
        (shapeCast S1x1000 b3 shapeCasts_S1000_S1x1000) y
      = mlp (fun k => x (ix2 (y 0) k)) W1 b1 W2 b2 W3 b3 (y 1) := by
  pointwise [k1_pay1, mlp]

/-- Point `t` reads the gathered array from row `512 t`, column 0. -/
theorem off1_val (t : Fin cfg1.N) : k1_off1 (grid1.coords t) 0 = t.val * 512 ∧ k1_off1 (grid1.coords t) 1 = 0 := by
  rcases fin_N1 t with rfl | rfl | rfl | rfl | rfl | rfl | rfl | rfl <;> decide +kernel

/-- The row of the table that a word names. -/
def rowOf (w : BitVec 32) : Fin 100000 := ⟨w.toNat % 100000, Nat.mod_lt _ (by decide)⟩

variable (m : (ℓ : Loc nD τ sig) → Buf (Elt Ideal) ℓ)

/-- The block that element `j` is computed from holds, at `j`'s place in it, row `j 0` of the array. -/
theorem block_apply (g : Vec Ideal S4096x128 .f32) (j : S4096x1000.Idx) (k : Fin 128) :
    View.ld g (Ideal.rW0 (grid1.coords (Ideal.ptOf j))) (ix2 (Ideal.inBlk j 0) k) = g (ix2 (j 0) k) := by
  have ho := off1_val (Ideal.ptOf j)
  show g ((Ideal.rW0 (grid1.coords (Ideal.ptOf j))).emb _) = _
  refine congrArg g (funext fun a => Fin.ext ?_)
  rw [show ((Ideal.rW0 (grid1.coords (Ideal.ptOf j))).emb (ix2 (Ideal.inBlk j 0) k) a : Nat) = k1_off1 (grid1.coords (Ideal.ptOf j)) a + (ix2 (Ideal.inBlk j 0) k a : Nat) from
    ValueKit.rect_emb_unit_val _ _ _ _ _]
  match a with
  | ⟨0, _⟩ =>
    show k1_off1 (grid1.coords (Ideal.ptOf j)) 0 + (j 0).val % 512 = (j 0).val
    rw [ho.1]
    show (j 0).val / 512 * 512 + (j 0).val % 512 = (j 0).val
    omega
  | ⟨1, _⟩ =>
    show k1_off1 (grid1.coords (Ideal.ptOf j)) 1 + k.val = k.val
    rw [ho.2]; omega

/-- The kernel's result. -/
theorem result_apply (d : Dev nD) (j : S4096x1000.Idx) :
    Ideal.result m d j
      = mlp (fun k => m ((d : Thread nD τ).loc main_arg1) (ix2 (rowOf (m ((d : Thread nD τ).loc main_arg0) (ix1 (j 0)))) k))
          (m ((d : Thread nD τ).loc main_arg2)) (m ((d : Thread nD τ).loc main_arg3)) (m ((d : Thread nD τ).loc main_arg4))
          (m ((d : Thread nD τ).loc main_arg5)) (m ((d : Thread nD τ).loc main_arg6)) (m ((d : Thread nD τ).loc main_arg7)) (j 1) := by
  unfold Ideal.result Ideal.outArr Ideal.outBlk
  rw [Ideal.Vr_g, Ideal.Vr_1, Ideal.Vr_2, Ideal.Vr_3, Ideal.Vr_arg m d main_arg2 (by decide), Ideal.Vr_arg m d main_arg4 (by decide),
    Ideal.Vr_arg m d main_arg6 (by decide)]
  refine (pay_apply _ _ _ _ _ _ _ _).trans ?_
  refine congrArg (mlp · _ _ _ _ _ _ _) (funext fun k => ?_)
  refine (block_apply _ j k).trans ?_
  show m _ _ = m _ _
  refine congrArg (m _) (funext fun a => ?_)
  match a with
  | ⟨0, _⟩ =>
    refine Fin.ext ?_
    refine congrArg (fun i : S4096.Idx => BitVec.toNat (m (Ideal.iLoc d) i : BitVec 32) % 100000) (funext fun b => ?_)
    match b with
    | ⟨0, _⟩ => rfl
  | ⟨1, _⟩ => rfl

end Kernel

/-! ## The reference -/

section Reference

open Cert.ReferenceIdeal Cert.ReferenceIdeal.Gen

/-- The reference's three layers of the rows `x`. -/
abbrev layers (x : FVec Ideal S4096x128 .f32) (W1 : FVec Ideal S1024x128 .f32) (b1 : FVec Ideal S1024 .f32)
    (W2 : FVec Ideal S512x1024 .f32) (b2 : FVec Ideal S512 .f32) (W3 : FVec Ideal S1000x512 .f32) (b3 : FVec Ideal S1000 .f32) : FVec Ideal S4096x1000 .f32 :=
  addf (Host.dotGeneral dot_S4096x512_S512x1000_S4096x1000_1_0_0_1_n_n none (maximumf (addf (Host.dotGeneral dot_S4096x1024_S1024x512_S4096x512_1_0_0_1_n_n none (maximumf (addf (Host.dotGeneral dot_S4096x128_S128x1024_S4096x1024_1_0_0_1_n_n none x (transpose S128x1024 [1, 0] W1 transposes_S1024x128_S128x1024_1_0)) (broadcastInDim S4096x1024 ![0, 1] bcast_S1x1024_S4096x1024_0_1 (broadcastInDim S1x1024 ![1] bcast_S1024_S1x1024_1 b1))) (broadcastInDim S4096x1024 ![] bcast_S_S4096x1024 (constant S_ .f32 0x00000000#32))) (transpose S1024x512 [1, 0] W2 transposes_S512x1024_S1024x512_1_0)) (broadcastInDim S4096x512 ![0, 1] bcast_S1x512_S4096x512_0_1 (broadcastInDim S1x512 ![1] bcast_S512_S1x512_1 b2))) (broadcastInDim S4096x512 ![] bcast_S_S4096x512 (constant S_ .f32 0x00000000#32))) (transpose S512x1000 [1, 0] W3 transposes_S1000x512_S512x1000_1_0)) (broadcastInDim S4096x1000 ![0, 1] bcast_S1x1000_S4096x1000_0_1 (broadcastInDim S1x1000 ![1] bcast_S1000_S1x1000_1 b3))

/-- They are `mlp` of each row. -/
theorem layers_apply (x : FVec Ideal S4096x128 .f32) (W1 : FVec Ideal S1024x128 .f32) (b1 : FVec Ideal S1024 .f32)
    (W2 : FVec Ideal S512x1024 .f32) (b2 : FVec Ideal S512 .f32) (W3 : FVec Ideal S1000x512 .f32) (b3 : FVec Ideal S1000 .f32) (j : S4096x1000.Idx) :
    layers x W1 b1 W2 b2 W3 b3 j
      = mlp (fun k => x (ix2 (j 0) k)) W1 b1 W2 b2 W3 b3 (j 1) := by
  pointwise [layers, mlp]

variable (st : IVec S4096 32)

/-- The row numbers the reference takes: a negative word counts from the table's end. -/
abbrev rows : IVec S4096x1 32 := broadcastInDim S4096x1 ![0] bcast_S4096_S4096x1_0 (select (cmpi .slt st (broadcastInDim S4096 ![] bcast_S_S4096 (constantI S_ 32 0#32))) (addi st (broadcastInDim S4096 ![] bcast_S_S4096 (constantI S_ 32 100000#32))) st)

/-- Where the row number is in range. -/
abbrev mask : IVec S4096 1 := Host.reduce IntOp.andi (andi (cmpi .sge (rows st) (broadcastInDim S4096x1 ![] bcast_S_S4096x1 (constantI S_ 32 0#32))) (cmpi .sle (rows st) (broadcastInDim S4096x1 ![0, 1] bcast_S1x1_S4096x1_0_1 (broadcastInDim S1x1 ![1] bcast_S1_S1x1_1 (constantI S1 32 99999#32))))) (constantI S_ 1 1#1) reducesTo_S4096x1_S4096_d1 h_S_

/-- The rows the reference takes. -/
abbrev taken (tbl : FVec Ideal S100000x128 .f32) : FVec Ideal S4096x128 .f32 :=
  select (broadcastInDim S4096x128 ![0] bcast_S4096_S4096x128_0 (mask st)) (Host.gather gather_S100000x128_S4096x1_S4096x128_1_0_n_n_0_1_1128 tbl (rows st)) (broadcastInDim S4096x128 ![] bcast_S_S4096x128 (constant S_ .f32 0x7FC00000#32))

/-- A word in range is no negative number, -/
theorem slt_zero (w : BitVec 32) (h : w.toNat < 100000) : IntOp.cmpi .slt w 0#32 ≠ 1#1 := fun e => by
  have := (StableHlo.Predicate.slt_iff_toNat (a := w) (b := 0#32) (by omega) (by decide)).1 e
  exact absurd this (Nat.not_lt_zero _)

variable (h : ∀ j, (st j).toNat < 100000)
include h

/-- so the row numbers are the words, -/
theorem rows_apply (i : S4096x1.Idx) : rows st i = st (ix1 (i 0)) := by
  pointwise [rows]
  exact if_neg (slt_zero _ (h _))

/-- and no row is masked. -/
theorem mask_apply (j : S4096.Idx) : mask st j = 1#1 := by
  refine Host.reduce_andi_one _ _ _ _ _ rfl fun i => IntOp.andi_eq_one.2 ?_
  have hr := rows_apply st h i
  have hi := h (ix1 (i 0))
  constructor
  · show IntOp.cmpi .sge (rows st i) 0#32 = 1#1
    rw [hr]
    exact (StableHlo.Predicate.sge_iff_toNat (by omega) (by decide)).2 (Nat.zero_le _)
  · show IntOp.cmpi .sle (rows st i) 99999#32 = 1#1
    rw [hr]
    exact (StableHlo.Predicate.sle_iff_toNat (by omega) (by decide)).2 (by show _ ≤ 99999; omega)

/-- The reference's take, with every word in range. -/
theorem take_apply (tbl : FVec Ideal S100000x128 .f32) (r : Fin 4096) (k : Fin 128) :
    taken st tbl (ix2 r k)
      = tbl (ix2 (rowOf (st (ix1 r))) k) := by
  show Scalar.select (mask st _) (Host.gather _ tbl (rows st) (ix2 r k)) _ = _
  rw [mask_apply st h]
  refine (if_pos rfl).trans ?_
  refine Routing.gather_row _ rfl rfl rfl rfl rfl tbl (rows st) r k (rowOf (st (ix1 r))) ?_ (by decide)
  rw [rows_apply st h]
  refine BitVec.eq_of_toNat_eq ?_
  have hr := h (ix1 r)
  show (st (ix1 r)).toNat = (BitVec.ofNat 32 ((st (ix1 r)).toNat % 100000)).toNat
  rw [BitVec.toNat_ofNat, Nat.mod_eq_of_lt hr, Nat.mod_eq_of_lt (by omega)]

/-- The reference's result, with every word in range. -/
theorem reference_apply (tbl : FVec Ideal S100000x128 .f32) (W1 : FVec Ideal S1024x128 .f32) (b1 : FVec Ideal S1024 .f32)
    (W2 : FVec Ideal S512x1024 .f32) (b2 : FVec Ideal S512 .f32) (W3 : FVec Ideal S1000x512 .f32) (b3 : FVec Ideal S1000 .f32) (j : S4096x1000.Idx) :
    layers (taken st tbl) W1 b1 W2 b2 W3 b3 j
      = mlp (fun k => tbl (ix2 (rowOf (st (ix1 (j 0)))) k)) W1 b1 W2 b2 W3 b3 (j 1) :=
  (layers_apply _ W1 b1 W2 b2 W3 b3 j).trans (congrArg (mlp · W1 b1 W2 b2 W3 b3 (j 1)) (funext fun k => take_apply st h tbl (j 0) k))

end Reference

end Cert.Proof

end
-- ==== Proof.lean ====
/-
  The certificate's claims, put together from the runs (Proof/BitsRun.lean, Proof/IdealRun.lean, the generated run of
  the reference), the precondition read (Proof/Pre.lean) and the equation of the values (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.IdealRun
public import proofs.«01_k».proof.Proof.BitsRun
public import proofs.«01_k».proof.Proof.Pre
public import proofs.«01_k».proof.Proof.Value
public import proofs.«01_k».proof.Proof.Gen.Pre_in_vocab
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's result, of the argument arrays in the memory `m`. -/
abbrev expected (m : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S4096x1000 .f32 :=
  layers (taken (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))

/-- The kernel's frame, at the float words. -/
theorem frame_p : Cert.quiescent_Kernel := fun m g h =>
  haveI : ∀ e, Nonempty (Elt Bits e) := fun e => by cases e <;> exact ⟨0⟩
  (θ_run Cert.Kernel.defs _ _).mono (fun _ r => ⟨fun c => (r.1 c).2, r.2⟩) (Bits.run_main m g fun d j => words_of_pre _ _ _ _ _ _ _ _ (h d) j)

/-- The idealized kernel's frame. -/
theorem frame_pi : Cert.quiescent_KernelIdeal := fun m g h =>
  haveI : ∀ e, Nonempty (Elt Ideal e) := fun e => by cases e <;> exact ⟨0⟩
  (θ_run Cert.KernelIdeal.defs _ _).mono (fun _ r => ⟨fun c => (r.1 c).2, r.2⟩) (Ideal.run_main m g fun d j => words_of_pre _ _ _ _ _ _ _ _ (h d) j)

/-- The reference's frame: it has no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Kernel and reference end with equal results: each element of both is `mlp` of the row that its word of `state` names. -/
theorem algebraic : Cert.algebraic_KernelIdeal_ReferenceIdeal := fun m g m' g' h hagree => by
  haveI : ∀ e, Nonempty (Elt Ideal e) := fun e => by cases e <;> exact ⟨0⟩
  have hrows : Ideal.InRows m := fun d j => words_of_pre _ _ _ _ _ _ _ _ (h d) j
  have heq (c : Dev Cert.KernelIdeal.nD) : expected m' c = Ideal.result m c := by
    obtain ⟨e0, e1, e2, e3, e4, e5, e6, e7⟩ := hagree c
    unfold expected
    rw [e0, e1, e2, e3, e4, e5, e6, e7]
    funext j
    exact (reference_apply _ (hrows c) _ _ _ _ _ _ _ j).trans (result_apply m c j).symm
  refine ⟨Ideal.result m, ?_, ?_⟩
  · exact (θ_run Cert.KernelIdeal.defs _ _).mono (fun _ r => r.1) (Ideal.run_main m g hrows)
  · exact (θ_run Cert.ReferenceIdeal.defs _ _).mono (fun _ r c => ⟨(r c).1.trans (heq c), (r c).2⟩)
      (Cert.ReferenceIdeal.Value.run (F := Ideal) m' g')

/-- Every claim of the certificate. -/
theorem claim : Cert.Claim :=
  ⟨Cert.Kernel.Gen.facts, Cert.KernelIdeal.Gen.facts, Cert.ReferenceIdeal.Gen.facts, Cert.Pre_in_vocab.Gen.facts,
    frame_p, frame_pi, frame_ri, fun m g _ => frame_ri m g trivial, trivial, algebraic⟩

end Cert.Proof

end
